-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8 : Shape := ⟨2, ![1024, 8]⟩
abbrev S8x1024x4096 : Shape := ⟨3, ![8, 1024, 4096]⟩
abbrev S8x2048x1024 : Shape := ⟨3, ![8, 2048, 1024]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S10240x1024 : Shape := ⟨2, ![10240, 1024]⟩
abbrev S8192x1024 : Shape := ⟨2, ![8192, 1024]⟩
abbrev S1280x1024 : Shape := ⟨2, ![1280, 1024]⟩
abbrev S1x1024x512 : Shape := ⟨3, ![1, 1024, 512]⟩
abbrev S1x512x1024 : Shape := ⟨3, ![1, 512, 1024]⟩
abbrev S1024x512 : Shape := ⟨2, ![1024, 512]⟩
abbrev S1280x512 : Shape := ⟨2, ![1280, 512]⟩
abbrev S512x1024 : Shape := ⟨2, ![512, 1024]⟩

abbrev nBuf : Space → Nat
  | .hbm => 117
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S8x1024x4096, .f32⟩
  | .hbm, ⟨3, _⟩ => ⟨S8x2048x1024, .f32⟩
  | .hbm, ⟨4, _⟩ => ⟨S4096x8, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x8, .f32⟩
  | .hbm, ⟨18, _⟩ => ⟨S4096x8, .f32⟩
  | .hbm, ⟨19, _⟩ => ⟨S4096x2, .f32⟩
  | .hbm, ⟨20, _⟩ => ⟨S4096x2, .i32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x2, .f32⟩
  | .hbm, ⟨25, _⟩ => ⟨S4096x2, .f32⟩
  | .hbm, ⟨26, _⟩ => ⟨S8192, .i32⟩
  | .hbm, ⟨27, _⟩ => ⟨S8192, .f32⟩
  | .hbm, ⟨28, _⟩ => ⟨S8192x1, .i32⟩
  | .hbm, ⟨29, _⟩ => ⟨S1x8, .i32⟩
  | .hbm, ⟨30, _⟩ => ⟨S8192x8, .i32⟩
  | .hbm, ⟨31, _⟩ => ⟨S8192x8, .i32⟩
  | .hbm, ⟨32, _⟩ => ⟨S8192x8, .i1⟩
  | .hbm, ⟨33, _⟩ => ⟨S8192x8, .i32⟩
  | .hbm, ⟨34, _⟩ => ⟨S_, .i32⟩
  | .hbm, ⟨35, _⟩ => ⟨S_, .i32⟩
  | .hbm, ⟨36, _⟩ => ⟨S8192x8, .i32⟩
  | .hbm, ⟨37, _⟩ => ⟨S8192x8, .i32⟩
  | .hbm, ⟨38, _⟩ => ⟨S_, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S4096, .i32⟩
  | .hbm, ⟨47, _⟩ => ⟨S4096x2, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S_, .f32⟩
  | .hbm, ⟨62, _⟩ => ⟨S10240x1024, .f32⟩
  | .hbm, ⟨63, _⟩ => ⟨S8192x1, .i1⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S8192x1024, .f32⟩
  | .hbm, ⟨73, _⟩ => ⟨S_, .f32⟩
  | .hbm, ⟨74, _⟩ => ⟨S_, .f32⟩
  | .hbm, ⟨75, _⟩ => ⟨S8192x1024, .i1⟩
  | .hbm, ⟨76, _⟩ => ⟨S8192x1024, .f32⟩
  | .hbm, ⟨77, _⟩ => ⟨S8192x1024, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S8192x1, .i32⟩
  | .hbm, ⟨86, _⟩ => ⟨S10240x1024, .f32⟩
  | .hbm, ⟨87, _⟩ => ⟨S10240x1024, .f32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S8192x1, .i32⟩
  | .hbm, ⟨96, _⟩ => ⟨S8192x1024, .f32⟩
  | .hbm, ⟨97, _⟩ => ⟨S8192x1, .i1⟩
  | .hbm, ⟨98, _⟩ => ⟨S_, .f32⟩
  | .hbm, ⟨99, _⟩ => ⟨S_, .f32⟩
  | .hbm, ⟨100, _⟩ => ⟨S8192x1024, .i1⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S4096x1024, .f32⟩
  | .hbm, ⟨108, _⟩ => ⟨S_, .i32⟩
  | .hbm, ⟨109, _⟩ => ⟨S8192, .i32⟩
  | .hbm, ⟨110, _⟩ => ⟨S8192, .i1⟩
  | .hbm, ⟨111, _⟩ => ⟨S_, .i32⟩
  | .hbm, ⟨112, _⟩ => ⟨S8192, .i32⟩
  | .hbm, ⟨113, _⟩ => ⟨S8192, .i32⟩
  | .hbm, ⟨114, _⟩ => ⟨S8192, .i32⟩
  | .hbm, ⟨115, _⟩ => ⟨S8192x1, .i32⟩
  | .hbm, ⟨116, _⟩ => ⟨S4096x1024, .f32⟩
  | .local _ .vmem, ⟨0, _⟩ => ⟨S1280x1024, .f32⟩
  | .local _ .vmem, ⟨1, _⟩ => ⟨S1280x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1280x1024, .f32⟩
  | .local _ .vmem, ⟨9, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_call1_call0_c : Ref sig .tc := ⟨.hbm, 34, rfl⟩
abbrev main_call1_call0_v0 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v42 : Ref sig .tc := ⟨.hbm, 77, rfl⟩
abbrev main_c_12 : Ref sig .tc := ⟨.hbm, 78, rfl⟩
abbrev main_v43 : Ref sig .tc := ⟨.hbm, 79, rfl⟩
abbrev main_v44 : Ref sig .tc := ⟨.hbm, 80, rfl⟩
abbrev main_c_13 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_14 : Ref sig .tc := ⟨.hbm, 88, rfl⟩
abbrev main_v51 : Ref sig .tc := ⟨.hbm, 89, rfl⟩
abbrev main_v52 : Ref sig .tc := ⟨.hbm, 90, rfl⟩
abbrev main_c_15 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_16 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_17 : Ref sig .tc := ⟨.hbm, 106, rfl⟩
abbrev main_v63 : Ref sig .tc := ⟨.hbm, 107, rfl⟩
abbrev main_c_18 : Ref sig .tc := ⟨.hbm, 108, rfl⟩
abbrev main_v64 : Ref sig .tc := ⟨.hbm, 109, rfl⟩
abbrev main_v65 : Ref sig .tc := ⟨.hbm, 110, rfl⟩
abbrev main_c_19 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_12 : BitVec 32 := 0#32
  let v16 : BitVec 1 := Scalar.cmpi .ne v15 c0_i32_12
  v16

def k0_cond2 (i : grid0.Coords) : BitVec 1 :=
  let arg1 : BitVec 32 := BitVec.ofNat 32 (i 1).val
  let c0_i32_13 : BitVec 32 := 0#32
  let v17 : BitVec 1 := Scalar.cmpi .sgt arg1 c0_i32_13
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x1024 : Shape := ⟨2, ![4096, 1024]⟩
abbrev S1024x8 : Shape := ⟨2, ![1024, 8]⟩
abbrev S8x1024x4096 : Shape := ⟨3, ![8, 1024, 4096]⟩
abbrev S8x2048x1024 : Shape := ⟨3, ![8, 2048, 1024]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S10240x1024 : Shape := ⟨2, ![10240, 1024]⟩
abbrev S8192x1024 : Shape := ⟨2, ![8192, 1024]⟩
abbrev S8x1280x1024 : Shape := ⟨3, ![8, 1280, 1024]⟩
abbrev S8x1280x4096 : Shape := ⟨3, ![8, 1280, 4096]⟩
abbrev S8x1280x2048 : Shape := ⟨3, ![8, 1280, 2048]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S1024x8, .f32⟩
  | 2 => ⟨S8x1024x4096, .f32⟩
  | 3 => ⟨S8x2048x1024, .f32⟩
  | 4 => ⟨S4096x8, .f32⟩
  | 5 => ⟨S_, .f32⟩
  | 6 => ⟨S4096, .f32⟩
  | 7 => ⟨S_, .f32⟩
  | 8 => ⟨S4096, .f32⟩
  | 9 => ⟨S4096, .f32⟩
  | 10 => ⟨S4096x1, .f32⟩
  | 11 => ⟨S4096x8, .f32⟩
  | 12 => ⟨S4096x8, .f32⟩
  | 13 => ⟨S4096x8, .f32⟩
  | 14 => ⟨S_, .f32⟩
  | 15 => ⟨S4096, .f32⟩
  | 16 => ⟨S4096x1, .f32⟩
  | 17 => ⟨S4096x8, .f32⟩
  | 18 => ⟨S4096x8, .f32⟩
  | 19 => ⟨S4096x2, .f32⟩
  | 20 => ⟨S4096x2, .i32⟩
  | 21 => ⟨S_, .f32⟩
  | 22 => ⟨S4096, .f32⟩
  | 23 => ⟨S4096x1, .f32⟩
  | 24 => ⟨S4096x2, .f32⟩
  | 25 => ⟨S4096x2, .f32⟩
  | 26 => ⟨S8192, .i32⟩
  | 27 => ⟨S8192, .f32⟩
  | 28 => ⟨S8192x1, .i32⟩
  | 29 => ⟨S1x8, .i32⟩
  | 30 => ⟨S8192x8, .i32⟩
  | 31 => ⟨S8192x8, .i32⟩
  | 32 => ⟨S8192x8, .i1⟩
  | 33 => ⟨S8192x8, .i32⟩
  | 34 => ⟨S_, .i32⟩
  | 35 => ⟨S_, .i32⟩
  | 36 => ⟨S8192x8, .i32⟩
  | 37 => ⟨S8192x8, .i32⟩
  | 38 => ⟨S_, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i1⟩
  | 46 => ⟨S4096, .i32⟩
  | 47 => ⟨S4096x2, .i32⟩
  | 48 => ⟨S8192, .i32⟩
  | 49 => ⟨S_, .i32⟩
  | 50 => ⟨S8192, .i32⟩
  | 51 => ⟨S8192, .i32⟩
  | 52 => ⟨S_, .i32⟩
  | 53 => ⟨S_, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192, .i32⟩
  | 61 => ⟨S_, .f32⟩
  | 62 => ⟨S10240x1024, .f32⟩
  | 63 => ⟨S8192x1, .i1⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x1024, .f32⟩
  | 73 => ⟨S_, .f32⟩
  | 74 => ⟨S_, .f32⟩
  | 75 => ⟨S8192x1024, .i1⟩
  | 76 => ⟨S8192x1024, .f32⟩
  | 77 => ⟨S8192x1024, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S10240x1024, .f32⟩
  | 87 => ⟨S8x1280x1024, .f32⟩
  | 88 => ⟨S8x1280x4096, .f32⟩
  | 89 => ⟨S8x1280x2048, .f32⟩
  | 90 => ⟨S8x1280x2048, .f32⟩
  | 91 => ⟨S8x1280x2048, .f32⟩
  | 92 => ⟨S8x1280x2048, .f32⟩
  | 93 => ⟨S_, .f32⟩
  | 94 => ⟨S8x1280x2048, .f32⟩
  | 95 => ⟨S8x1280x2048, .f32⟩
  | 96 => ⟨S_, .f32⟩
  | 97 => ⟨S8x1280x2048, .f32⟩
  | 98 => ⟨S8x1280x2048, .f32⟩
  | 99 => ⟨S8x1280x2048, .f32⟩
  | 100 => ⟨S8x1280x2048, .f32⟩
  | 101 => ⟨S8x1280x1024, .f32⟩
  | 102 => ⟨S10240x1024, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x1024, .f32⟩
  | 112 => ⟨S8192x1, .i1⟩
  | 113 => ⟨S_, .f32⟩
  | 114 => ⟨S_, .f32⟩
  | 115 => ⟨S8192x1024, .i1⟩
  | 116 => ⟨S8192x1024, .f32⟩
  | 117 => ⟨S8192x1024, .f32⟩
  | 118 => ⟨S8192x1, .f32⟩
  | 119 => ⟨S8192x1024, .f32⟩
  | 120 => ⟨S8192x1024, .f32⟩
  | 121 => ⟨S_, .f32⟩
  | 122 => ⟨S4096x1024, .f32⟩
  | 123 => ⟨S_, .i32⟩
  | 124 => ⟨S8192, .i32⟩
  | 125 => ⟨S8192, .i1⟩
  | 126 => ⟨S_, .i32⟩
  | 127 => ⟨S8192, .i32⟩
  | _ => ⟨S4096x1024, .f32⟩

abbrev hbmTy0_1 (i : Nat) : BufTy := match i % 128 with
  | 0 => ⟨S8192, .i32⟩
  | 1 => ⟨S8192, .i32⟩
  | 2 => ⟨S8192x1, .i32⟩
  | 3 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_call1_call0_c : Ref sig .tc := ⟨.hbm, 34, rfl⟩
abbrev main_call1_call0_v0 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v42 : Ref sig .tc := ⟨.hbm, 77, rfl⟩
abbrev main_c_12 : Ref sig .tc := ⟨.hbm, 78, rfl⟩
abbrev main_v43 : Ref sig .tc := ⟨.hbm, 79, rfl⟩
abbrev main_v44 : Ref sig .tc := ⟨.hbm, 80, rfl⟩
abbrev main_c_13 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_14 : Ref sig .tc := ⟨.hbm, 103, rfl⟩
abbrev main_v58 : Ref sig .tc := ⟨.hbm, 104, rfl⟩
abbrev main_v59 : Ref sig .tc := ⟨.hbm, 105, rfl⟩
abbrev main_c_15 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_16 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_17 : Ref sig .tc := ⟨.hbm, 121, rfl⟩
abbrev main_v70 : Ref sig .tc := ⟨.hbm, 122, rfl⟩
abbrev main_c_18 : Ref sig .tc := ⟨.hbm, 123, rfl⟩
abbrev main_v71 : Ref sig .tc := ⟨.hbm, 124, rfl⟩
abbrev main_v72 : Ref sig .tc := ⟨.hbm, 125, rfl⟩
abbrev main_c_19 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩

abbrev nD : Nat := 1
abbrev τ : Topo := Topo.v7x

variable {F : FTy → Type} [FloatOps F]
-- ==== Proof.Route.lean ====
/- The host lines before the kernel's one region: the router, the top-2 choice, the positions in the experts' buffers
   and the gathered buffer. The reference begins with the same lines, so what the kernel's program holds when the region
   is entered is, buffer by buffer, the reference's stage of the same two arguments. Five buffers are read later: the
   tokens gathered for the experts (`main_v49`, the region's operand) and, by the lines after the region, the slot of
   each choice, whether it fits its expert's capacity, its weight and its token. -/
module

public import proofs.«01_k».proof.Proof.Gen.KernelIdeal.Frame
public import proofs.«01_k».proof.Proof.Gen.ReferenceIdeal.Read
public import Idealize.ShloMosaic.Lib.StableHlo.Run

@[expose] public section

noncomputable section

namespace Cert.KernelIdeal.Route

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (m : (ℓ : Loc nD τ sig) → Buf (Elt F) ℓ) (c : Dev nD)

/-- The tokens' rows the router reads. -/
abbrev x (m : (ℓ : Loc nD τ sig) → Buf (Elt F) ℓ) (c : Dev nD) : Vec F S4096x1024 .f32 := m ((c : Thread nD τ).loc main_arg0)
/-- The router's weights. -/
abbrev wr (m : (ℓ : Loc nD τ sig) → Buf (Elt F) ℓ) (c : Dev nD) : Vec F S1024x8 .f32 := m ((c : Thread nD τ).loc main_arg1)

set_option maxRecDepth 8192 in
set_option maxHeartbeats 51200000 in
/-- Each choice's token. -/
theorem token : V m c main_v28 = (val_main_v28 : Vec F S8192 .i32) := by
  unfold V V0
  simp only [hostOps0, hostOps0_1, hostOps0_2, hostOps0_3, hostOps0_4, hostOps0_5, hostOps0_6, hostOps0_7, List.flatten_cons,
    List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 51200000 in
/-- Each choice's weight. -/
theorem weight : V m c main_v17 = (val_main_v17 (x m c) (wr m c) : Vec F S8192 .f32) := by
  unfold V V0
  simp only [hostOps0, hostOps0_1, hostOps0_2, hostOps0_3, hostOps0_4, hostOps0_5, hostOps0_6, hostOps0_7, List.flatten_cons,
    List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 51200000 in
/-- Whether each choice is among the first 1280 that name its expert. -/
theorem fits : V m c main_v25 = (val_main_v25 (x m c) (wr m c) : Vec F S8192 .i1) := by
  unfold V V0
  simp only [hostOps0, hostOps0_1, hostOps0_2, hostOps0_3, hostOps0_4, hostOps0_5, hostOps0_6, hostOps0_7, List.flatten_cons,
    List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 51200000 in
/-- Each choice's row in the experts' buffers (the last row of its expert where it does not fit). -/
theorem slot : V m c main_v32 = (val_main_v32 (x m c) (wr m c) : Vec F S8192 .i32) := by
  unfold V V0
  simp only [hostOps0, hostOps0_1, hostOps0_2, hostOps0_3, hostOps0_4, hostOps0_5, hostOps0_6, hostOps0_7, List.flatten_cons,
    List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 51200000 in
/-- The experts' buffers: each row the sum of the fitting choices' token rows that name it. -/
theorem gathered : V m c main_v49 = (val_main_v49 (x m c) (wr m c) : Vec F S10240x1024 .f32) := by
  unfold V V0
  simp only [hostOps0, hostOps0_1, hostOps0_2, hostOps0_3, hostOps0_4, hostOps0_5, hostOps0_6, hostOps0_7, List.flatten_cons,
    List.flatten_nil, List.append_nil, List.cons_append, List.nil_append,
    TRef.binary, TRef.nullary, TRef.ternary, TRef.unary, TRef.toBuf, TRef.ofBuf, cast_eq]
  after_results_simp <;> rfl

end Cert.KernelIdeal.Route

end
-- ==== Proof.Combine.lean ====
/- The host lines after the kernel's one region: each choice's row of the experts' results is gathered, dropped where
   the choice did not fit, weighted, and summed into its token's row. The reference ends with the same lines. -/
module

public import proofs.«01_k».proof.Proof.Gen.KernelIdeal.Frame
public import proofs.«01_k».proof.Proof.Gen.ReferenceIdeal.Read
public import Idealize.ShloMosaic.Lib.StableHlo.Run

@[expose] public section

noncomputable section

namespace Cert.KernelIdeal.Combine

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]

set_option maxRecDepth 8192 in
set_option maxHeartbeats 51200000 in
/-- From buffers that hold the reference's stages — the experts' results, and each choice's slot, fit, weight and token —
    the lines after the region leave the reference's result. -/
theorem result (W : Valuation τ sig (Elt F)) (x0 : Vec F S4096x1024 .f32) (x1 : Vec F S1024x8 .f32)
    (x2 : Vec F S8x1024x4096 .f32) (x3 : Vec F S8x2048x1024 .f32)
    (hy : W (Proc.devRef .tc main_v50) = (val_main_v57 x0 x1 x2 x3 : Vec F S10240x1024 .f32))
    (hslot : W (Proc.devRef .tc main_v32) = (val_main_v32 x0 x1 : Vec F S8192 .i32))
    (hfits : W (Proc.devRef .tc main_v25) = (val_main_v25 x0 x1 : Vec F S8192 .i1))
    (hweight : W (Proc.devRef .tc main_v17) = (val_main_v17 x0 x1 : Vec F S8192 .f32))
    (htoken : W (Proc.devRef .tc main_v28) = (val_main_v28 : Vec F S8192 .i32)) :
    after (List.flatten [hostOps1, hostOps1_1, hostOps1_2]) W (Proc.devRef .tc main_v70)
      = (val_main_v77 x0 x1 x2 x3 : Vec F S4096x1024 .f32) := by
  simp only [hostOps1, hostOps1_1, hostOps1_2, List.flatten_cons, List.flatten_nil, List.append_nil, List.cons_append,
    List.nil_append, TRef.binary, TRef.nullary, TRef.ternary, TRef.unary, TRef.toBuf, TRef.ofBuf, cast_eq]
  after_results_simp
  rw [hy, hslot, hfits, hweight, htoken]
  rfl

end Cert.KernelIdeal.Combine

end
-- ==== Proof.Ffn.lean ====
/- The feed-forward step of the experts over the extended reals, and its sum over four slices of the hidden units. -/
module

public import Idealize.ShloMosaic.PureOps.Ideal.Laws

@[expose] public section

noncomputable section

namespace Cert.Ffn

open Idealize.ShloMosaic

variable (X : Fin 10240 → Fin 1024 → EReal) (U : Fin 8 → Fin 1024 → Fin 4096 → EReal)
  (D : Fin 8 → Fin 2048 → Fin 1024 → EReal)

/-- The expert a buffer row belongs to: each has 1280 rows. -/
def expert (i : Fin 10240) : Fin 8 := ⟨i.val / 1280, by omega⟩

/-- The gate column of hidden unit `p`: the first half of the 4096 columns. -/
def gateCol (p : Fin 2048) : Fin 4096 := ⟨p.val, by omega⟩

/-- The linear column of hidden unit `p`: the second half. -/
def linCol (p : Fin 2048) : Fin 4096 := ⟨2048 + p.val, by omega⟩

/-- Row `i` against column `n` of its expert's first weight. -/
def up (i : Fin 10240) (n : Fin 4096) : EReal := ∑ q : Fin 1024, X i q * U (expert i) q n

/-- Hidden unit `p` of row `i`: `silu` of the gate column, times the linear column. -/
def hidden (i : Fin 10240) (p : Fin 2048) : EReal :=
  up X U i (gateCol p) * Ideal.logistic (up X U i (gateCol p)) * up X U i (linCol p)

/-- Entry `d` of row `i` after the feed-forward step. -/
def out (i : Fin 10240) (d : Fin 1024) : EReal := ∑ p : Fin 2048, hidden X U i p * D (expert i) p d

/-- Hidden unit `k` of slice `f`. -/
def unit (f : Fin 4) (k : Fin 512) : Fin 2048 := ⟨512 * f.val + k.val, by omega⟩

/-- What slice `f` of the hidden units adds to entry `d` of row `i`. -/
def part (i : Fin 10240) (d : Fin 1024) (f : Fin 4) : EReal :=
  ∑ k : Fin 512, hidden X U i (unit f k) * D (expert i) (unit f k) d

/-- A sum over the 2048 hidden units is the sum over the slices of the sums within them. -/
theorem sum_units (g : Fin 2048 → EReal) : ∑ p : Fin 2048, g p = ∑ f : Fin 4, ∑ k : Fin 512, g (unit f k) := by
  rw [← Fintype.sum_prod_type', ← Equiv.sum_comp (finProdFinEquiv (m := 4) (n := 512))]
  refine Finset.sum_congr rfl fun x _ => congrArg g (Fin.ext ?_)
  show x.2.val + 512 * x.1.val = 512 * x.1.val + x.2.val
  omega

/-- The four slices' parts, added first to last, are the whole entry. -/
theorem parts (i : Fin 10240) (d : Fin 1024) :
    part X U D i d 0 + part X U D i d 1 + part X U D i d 2 + part X U D i d 3 = out X U D i d := by
  unfold out
  rw [sum_units, Fin.sum_univ_four]
  rfl

end Cert.Ffn

end
-- ==== Proof.Block.lean ====
/- What one grid point of the kernel computes. -/
module

public import proofs.«01_k».proof.Proof.Gen.KernelIdeal.Frame
public import Idealize.ShloMosaic.Lib.Pipeline.Value
public import Idealize.ShloMosaic.Lib.Pointwise
public import Idealize.ShloMosaic.PureOps.Ideal.Laws

@[expose] public section

noncomputable section

namespace Cert.KernelIdeal.Block

open Cert.KernelIdeal Cert.KernelIdeal.Gen Idealize.ShloMosaic Idealize.ShloMosaic.TcCoe Idealize.SL.Sem

section AnyFloat

variable {F : FTy → Type} [FloatOps F]

/-- The zero offset of a rank-2 access is zero on every axis. -/
theorem hz2 : (![0, 0] : Fin 2 → Nat) = fun _ => 0 := funext fun a => by fin_cases a <;> rfl
/-- The zero offset of a rank-3 access is zero on every axis. -/
theorem hz3 : (![0, 0, 0] : Fin 3 → Nat) = fun _ => 0 := funext fun a => by fin_cases a <;> rfl

/-- At an expert's first slice the body leaves the slice's product. -/
theorem first (c : Dev nD) (i : grid0.Coords) (a2 : Memref sig .tc .vmem S1280x1024 .f32) (h2 : a2.IsWhole) (a3 : Memref sig .tc .vmem S1x1024x512 .f32) (h3 : a3.IsWhole) (a4 : Memref sig .tc .vmem S1x1024x512 .f32) (h4 : a4.IsWhole) (a5 : Memref sig .tc .vmem S1x512x1024 .f32) (h5 : a5.IsWhole) (a6 : Memref sig .tc .vmem S1280x1024 .f32) (h6 : a6.IsWhole) (hc0 : cond0_0 i) (hc1 : ¬cond0_1 i)
    (x0 : Vec F S1280x1024 .f32) (x1 x2 : Vec F S1x1024x512 .f32) (x3 : Vec F S1x512x1024 .f32) :
    out0_A_4 c i a2 h2 a3 h3 a4 h4 a5 h5 a6 h6 hc0 hc1 x0 x1 x2 x3 = k0_pay1 x0 x1 x2 x3 := by
  unfold out0_A_4
  rw [View.read_writes_eq_canon _ _ _ (cover0_A_4 c i a2 h2 a3 h3 a4 h4 a5 h5 a6 h6 hc0 hc1 x0 x1 x2 x3)]
  unfold kernelRun0_A
  dsimp only
  rw [View.canon_unit_zero hz2]
  simp only [View.readAt_eq_ld, h2.read_unread, h3.read_unread, h4.read_unread, h5.read_unread,
    View.ld_unit_zero (S := S1280x1024) hz2, View.ld_unit_zero (S := S1x1024x512) hz3, View.ld_unit_zero (S := S1x512x1024) hz3]

/-- At every later slice the body adds the slice's product to what the buffer held. -/
theorem later (c : Dev nD) (i : grid0.Coords) (a2 : Memref sig .tc .vmem S1280x1024 .f32) (h2 : a2.IsWhole) (a3 : Memref sig .tc .vmem S1x1024x512 .f32) (h3 : a3.IsWhole) (a4 : Memref sig .tc .vmem S1x1024x512 .f32) (h4 : a4.IsWhole) (a5 : Memref sig .tc .vmem S1x512x1024 .f32) (h5 : a5.IsWhole) (a6 : Memref sig .tc .vmem S1280x1024 .f32) (h6 : a6.IsWhole) (hc0 : ¬cond0_0 i) (hc1 : cond0_1 i)
    (x0 : Vec F S1280x1024 .f32) (x1 x2 : Vec F S1x1024x512 .f32) (x3 : Vec F S1x512x1024 .f32) (xo : Vec F S1280x1024 .f32) :
    out0_B_4 c i a2 h2 a3 h3 a4 h4 a5 h5 a6 h6 hc0 hc1 x0 x1 x2 x3 xo = addf xo (k0_pay1 x0 x1 x2 x3) := by
  unfold out0_B_4
  rw [View.read_writes_eq_canon _ _ _ (cover0_B_4 c i a2 h2 a3 h3 a4 h4 a5 h5 a6 h6 hc0 hc1 x0 x1 x2 x3 xo)]
  unfold kernelRun0_B
  dsimp only
  rw [View.canon_unit_zero hz2]
  unfold k0_pay2
  simp only [View.readAt_eq_ld, h2.read_unread, h3.read_unread, h4.read_unread, h5.read_unread, h6.read_unread,
    View.ld_unit_zero (S := S1280x1024) hz2, View.ld_unit_zero (S := S1x1024x512) hz3, View.ld_unit_zero (S := S1x512x1024) hz3, shapeCast_self]

end AnyFloat

set_option maxRecDepth 16384 in
/-- Entry (r, d) of a slice's product: over the slice's 512 hidden units, `silu` of the row against the gate column,
    times the row against the linear column, times the second weight's entry. -/
theorem product_apply (x0 : Vec Ideal S1280x1024 .f32) (x1 x2 : Vec Ideal S1x1024x512 .f32) (x3 : Vec Ideal S1x512x1024 .f32)
    (r : Fin 1280) (d : Fin 1024) :
    k0_pay1 x0 x1 x2 x3 (ix2 r d)
      = ∑ k : Fin 512, (∑ q : Fin 1024, x0 (ix2 r q) * x1 (ix3 0 q k)) * Ideal.logistic (∑ q : Fin 1024, x0 (ix2 r q) * x1 (ix3 0 q k))
          * (∑ q : Fin 1024, x0 (ix2 r q) * x2 (ix3 0 q k)) * x3 (ix3 0 k d) := by
  pointwise [k0_pay1]

end Cert.KernelIdeal.Block

end
-- ==== Proof.Array.lean ====
/- What the kernel's product array holds after the whole grid. -/
module

public import proofs.«01_k».proof.Proof.Ffn
public import proofs.«01_k».proof.Proof.Block

@[expose] public section

noncomputable section

namespace Cert.KernelIdeal.Array

open Cert.KernelIdeal Cert.KernelIdeal.Gen Idealize.ShloMosaic Idealize.ShloMosaic.TcCoe Idealize.SL.Sem Cert.Ffn

variable (m : (ℓ : Loc nD τ sig) → Buf (Elt Ideal) ℓ)

/-- The buffer's rows, as the grid finds them. -/
abbrev rows (c : Dev nD) : Fin 10240 → Fin 1024 → EReal := fun i q => (V m c main_v49 : Vec Ideal S10240x1024 .f32) (ix2 i q)
/-- The experts' first weights, as the grid finds them. -/
abbrev upW (c : Dev nD) : Fin 8 → Fin 1024 → Fin 4096 → EReal := fun e q n => (V m c main_arg2 : Vec Ideal S8x1024x4096 .f32) (ix3 e q n)
/-- The experts' second weights, as the grid finds them. -/
abbrev downW (c : Dev nD) : Fin 8 → Fin 2048 → Fin 1024 → EReal := fun e p d => (V m c main_arg3 : Vec Ideal S8x2048x1024 .f32) (ix3 e p d)

/-- The grid has 32 points. -/
theorem lt32 (t : Fin cfg0.N) : t.val < 32 := lt_of_lt_of_eq t.isLt (show cfg0.N = 32 from N_0)

/-- The expert of grid point `t`. -/
def expertAt (t : Fin cfg0.N) : Fin 8 := ⟨t.val / 4, by have := lt32 t; omega⟩
/-- The slice of grid point `t`. -/
def sliceAt (t : Fin cfg0.N) : Fin 4 := ⟨t.val % 4, by omega⟩
/-- The buffer row that is row `r` of grid point `t`'s block. -/
def rowAt (t : Fin cfg0.N) (r : Fin 1280) : Fin 10240 := ⟨1280 * (t.val / 4) + r.val, by have := lt32 t; omega⟩

/-- That row's expert is the grid point's. -/
theorem expert_rowAt (t : Fin cfg0.N) (r : Fin 1280) : expert (rowAt t r) = expertAt t :=
  Fin.ext (by show (1280 * (t.val / 4) + r.val) / 1280 = t.val / 4; omega)

/-- The first grid coordinate is the expert. -/
theorem coord0 (t : Fin cfg0.N) : (grid0.coords t 0).val = t.val / 4 := by
  have e : (grid0.coords t 0).val = t.val / 4 % 8 := Pipeline.Grid.coords_val t 0 (by decide) rfl
  have := lt32 t
  omega
/-- The second is the slice. -/
theorem coord1 (t : Fin cfg0.N) : (grid0.coords t 1).val = t.val % 4 := by
  have e : (grid0.coords t 1).val = t.val / 1 % 4 := Pipeline.Grid.coords_val t 1 (by decide) rfl
  omega

/-- The window of rows is at block (expert, 0). -/
theorem index0 (t : Fin cfg0.N) : win0_0.index t 0 = t.val / 4 ∧ win0_0.index t 1 = 0 := by
  refine ⟨?_, rfl⟩
  show (BitVec.ofNat 32 (grid0.coords t 0).val).toNat = _
  rw [coord0, BitVec.toNat_ofNat]
  have := lt32 t
  omega
/-- The window of gate columns is at block (expert, 0, slice). -/
theorem index1 (t : Fin cfg0.N) : win0_1.index t 0 = t.val / 4 ∧ win0_1.index t 1 = 0 ∧ win0_1.index t 2 = t.val % 4 := by
  refine ⟨?_, rfl, ?_⟩
  · show (BitVec.ofNat 32 (grid0.coords t 0).val).toNat = _
    rw [coord0, BitVec.toNat_ofNat]
    have := lt32 t
    omega
  · show (BitVec.ofNat 32 (grid0.coords t 1).val).toNat = _
    rw [coord1, BitVec.toNat_ofNat]
    omega
/-- The window of linear columns is at block (expert, 0, 4 + slice). -/
theorem index2 (t : Fin cfg0.N) : win0_2.index t 0 = t.val / 4 ∧ win0_2.index t 1 = 0 ∧ win0_2.index t 2 = 4 + t.val % 4 := by
  refine ⟨?_, rfl, ?_⟩
  · show (BitVec.ofNat 32 (grid0.coords t 0).val).toNat = _
    rw [coord0, BitVec.toNat_ofNat]
    have := lt32 t
    omega
  · show (4#32 + BitVec.ofNat 32 (grid0.coords t 1).val).toNat = _
    rw [coord1, BitVec.toNat_add, BitVec.toNat_ofNat, BitVec.toNat_ofNat]
    omega
/-- The window of the second weight is at block (expert, slice, 0). -/
theorem index3 (t : Fin cfg0.N) : win0_3.index t 0 = t.val / 4 ∧ win0_3.index t 1 = t.val % 4 ∧ win0_3.index t 2 = 0 := by
  refine ⟨?_, ?_, rfl⟩
  · show (BitVec.ofNat 32 (grid0.coords t 0).val).toNat = _
    rw [coord0, BitVec.toNat_ofNat]
    have := lt32 t
    omega
  · show (BitVec.ofNat 32 (grid0.coords t 1).val).toNat = _
    rw [coord1, BitVec.toNat_ofNat]
    omega
/-- The result's window is at block (expert, 0). -/
theorem index4 (t : Fin cfg0.N) : win0_4.index t 0 = t.val / 4 ∧ win0_4.index t 1 = 0 := by
  refine ⟨?_, rfl⟩
  show (BitVec.ofNat 32 (grid0.coords t 0).val).toNat = _
  rw [coord0, BitVec.toNat_ofNat]
  have := lt32 t
  omega

/-- Row `r` of the block of rows at grid point `t`, in any array of that shape. -/
theorem read_rows (A : Vec Ideal S10240x1024 .f32) (t : Fin cfg0.N) (r : Fin 1280) (q : Fin 1024) :
    (((cfg0.win 0).blk t).view.read (Elt Ideal) A : Vec Ideal S1280x1024 .f32) (ix2 r q) = A (ix2 (rowAt t r) q) := by
  rw [View.read_apply]
  refine congrArg A (funext fun a => Fin.ext ?_)
  match a with
  | ⟨0, _⟩ => show win0_0.index t 0 * 1280 + 1 * r.val = 1280 * (t.val / 4) + r.val; rw [(index0 t).1]; omega
  | ⟨1, _⟩ => show win0_0.index t 1 * 1024 + 1 * q.val = q.val; rw [(index0 t).2]; omega

/-- The block of gate columns at grid point `t`, in any array of that shape. -/
theorem read_gate (A : Vec Ideal S8x1024x4096 .f32) (t : Fin cfg0.N) (q : Fin 1024) (k : Fin 512) :
    (((cfg0.win 1).blk t).view.read (Elt Ideal) A : Vec Ideal S1x1024x512 .f32) (ix3 0 q k)
      = A (ix3 (expertAt t) q (gateCol (unit (sliceAt t) k))) := by
  rw [View.read_apply]
  refine congrArg A (funext fun a => Fin.ext ?_)
  match a with
  | ⟨0, _⟩ => show win0_1.index t 0 * 1 + 1 * 0 = t.val / 4; rw [(index1 t).1]; omega
  | ⟨1, _⟩ => show win0_1.index t 1 * 1024 + 1 * q.val = q.val; rw [(index1 t).2.1]; omega
  | ⟨2, _⟩ => show win0_1.index t 2 * 512 + 1 * k.val = 512 * (t.val % 4) + k.val; rw [(index1 t).2.2]; omega

/-- The block of linear columns at grid point `t`, in any array of that shape. -/
theorem read_lin (A : Vec Ideal S8x1024x4096 .f32) (t : Fin cfg0.N) (q : Fin 1024) (k : Fin 512) :
    (((cfg0.win 2).blk t).view.read (Elt Ideal) A : Vec Ideal S1x1024x512 .f32) (ix3 0 q k)
      = A (ix3 (expertAt t) q (linCol (unit (sliceAt t) k))) := by
  rw [View.read_apply]
  refine congrArg A (funext fun a => Fin.ext ?_)
  match a with
  | ⟨0, _⟩ => show win0_2.index t 0 * 1 + 1 * 0 = t.val / 4; rw [(index2 t).1]; omega
  | ⟨1, _⟩ => show win0_2.index t 1 * 1024 + 1 * q.val = q.val; rw [(index2 t).2.1]; omega
  | ⟨2, _⟩ => show win0_2.index t 2 * 512 + 1 * k.val = 2048 + (512 * (t.val % 4) + k.val); rw [(index2 t).2.2]; omega

/-- The block of the second weight at grid point `t`, in any array of that shape. -/
theorem read_down (A : Vec Ideal S8x2048x1024 .f32) (t : Fin cfg0.N) (k : Fin 512) (d : Fin 1024) :
    (((cfg0.win 3).blk t).view.read (Elt Ideal) A : Vec Ideal S1x512x1024 .f32) (ix3 0 k d)
      = A (ix3 (expertAt t) (unit (sliceAt t) k) d) := by
  rw [View.read_apply]
  refine congrArg A (funext fun a => Fin.ext ?_)
  match a with
  | ⟨0, _⟩ => show win0_3.index t 0 * 1 + 1 * 0 = t.val / 4; rw [(index3 t).1]; omega
  | ⟨1, _⟩ => show win0_3.index t 1 * 512 + 1 * k.val = 512 * (t.val % 4) + k.val; rw [(index3 t).2.1]; omega
  | ⟨2, _⟩ => show win0_3.index t 2 * 1024 + 1 * d.val = d.val; rw [(index3 t).2.2]; omega

/-- A product over blocks with a grid point's entries is that point's part of the feed-forward step. -/
theorem part_of (x0 : Vec Ideal S1280x1024 .f32) (x1 x2 : Vec Ideal S1x1024x512 .f32) (x3 : Vec Ideal S1x512x1024 .f32)
    (X : Fin 10240 → Fin 1024 → EReal) (U : Fin 8 → Fin 1024 → Fin 4096 → EReal) (D : Fin 8 → Fin 2048 → Fin 1024 → EReal)
    (t : Fin cfg0.N) (h0 : ∀ r q, x0 (ix2 r q) = X (rowAt t r) q)
    (h1 : ∀ q k, x1 (ix3 0 q k) = U (expertAt t) q (gateCol (unit (sliceAt t) k)))
    (h2 : ∀ q k, x2 (ix3 0 q k) = U (expertAt t) q (linCol (unit (sliceAt t) k)))
    (h3 : ∀ k d, x3 (ix3 0 k d) = D (expertAt t) (unit (sliceAt t) k) d) (r : Fin 1280) (d : Fin 1024) :
    k0_pay1 (F := Ideal) x0 x1 x2 x3 (ix2 r d) = part X U D (rowAt t r) d (sliceAt t) := by
  rw [Block.product_apply]
  simp only [h0, h1, h2, h3]
  unfold part Ffn.hidden up
  rw [expert_rowAt]

/-- A grid point's product is its slice's part of the feed-forward step. -/
theorem part_eq (c : Dev nD) (t : Fin cfg0.N) (r : Fin 1280) (d : Fin 1024) :
    (k0_pay1 (F := Ideal) (iblk m c 0 t) (iblk m c 1 t) (iblk m c 2 t) (iblk m c 3 t) : Vec Ideal S1280x1024 .f32) (ix2 r d)
      = part (rows m c) (upW m c) (downW m c) (rowAt t r) d (sliceAt t) := by
  unfold iblk
  exact part_of _ _ _ _ (rows m c) (upW m c) (downW m c) t (read_rows (V m c main_v49) t) (read_gate (V m c main_arg2) t)
    (read_lin (V m c main_arg2) t) (read_down (V m c main_arg3) t) r d

/-- After an expert's first slice the block holds that slice's part. -/
theorem at_first (c : Dev nD) (t : Fin cfg0.N) (h : t.val % 4 = 0) (r : Fin 1280) (d : Fin 1024) :
    (outsAt0 m c t.val t.isLt : Vec Ideal S1280x1024 .f32) (ix2 r d)
      = part (rows m c) (upW m c) (downW m c) (rowAt t r) d (sliceAt t) := by
  rw [outsAt0_A m c t h (by omega), Block.first]
  exact part_eq m c t r d

/-- After a later slice it holds that slice's part added to what it held. -/
theorem at_later (c : Dev nD) (t : Fin cfg0.N) (h : ¬t.val % 4 = 0) (r : Fin 1280) (d : Fin 1024) :
    (outsAt0 m c t.val t.isLt : Vec Ideal S1280x1024 .f32) (ix2 r d)
      = (outsAt0 m c (t.val - 1) (Nat.lt_of_le_of_lt (Nat.sub_le _ _) t.isLt) : Vec Ideal S1280x1024 .f32) (ix2 r d)
        + part (rows m c) (upW m c) (downW m c) (rowAt t r) d (sliceAt t) := by
  rw [outsAt0_B m c t h (by omega), Block.later]
  exact congrArg (fun b : EReal => (outsAt0 m c (t.val - 1) (Nat.lt_of_le_of_lt (Nat.sub_le _ _) t.isLt) : Vec Ideal S1280x1024 .f32) (ix2 r d) + b)
    (part_eq m c t r d)

/-- After an expert's last slice it holds the feed-forward step of the expert's rows. -/
theorem at_last (c : Dev nD) (t : Fin cfg0.N) (h : t.val % 4 = 3) (r : Fin 1280) (d : Fin 1024) :
    (outsAt0 m c t.val t.isLt : Vec Ideal S1280x1024 .f32) (ix2 r d)
      = out (rows m c) (upW m c) (downW m c) (rowAt t r) d := by
  have ht := t.isLt
  have e3 := at_later m c t (by omega) r d
  have e2 := at_later m c ⟨t.val - 1, by omega⟩ (by show ¬(t.val - 1) % 4 = 0; omega) r d
  have e1 := at_later m c ⟨t.val - 1 - 1, by omega⟩ (by show ¬(t.val - 1 - 1) % 4 = 0; omega) r d
  have e0 := at_first m c ⟨t.val - 1 - 1 - 1, by omega⟩ (by show (t.val - 1 - 1 - 1) % 4 = 0; omega) r d
  have row (n : Nat) (hn : n < cfg0.N) (hq : n / 4 = t.val / 4) : rowAt ⟨n, hn⟩ r = rowAt t r :=
    Fin.ext (by show 1280 * (n / 4) + r.val = 1280 * (t.val / 4) + r.val; rw [hq])
  have sl (n : Nat) (hn : n < cfg0.N) (f : Fin 4) (hf : n % 4 = f.val) : sliceAt ⟨n, hn⟩ = f := Fin.ext hf
  rw [row _ _ (by omega), sl _ _ 2 (by show _ = 2; omega)] at e2
  rw [row _ _ (by omega), sl _ _ 1 (by show _ = 1; omega)] at e1
  rw [row _ _ (by omega), sl _ _ 0 (by show _ = 0; omega)] at e0
  rw [show sliceAt t = 3 from Fin.ext h] at e3
  refine e3.trans (Eq.trans ?_ (parts _ _ _ _ _))
  refine congrArg (fun a : EReal => a + part (rows m c) (upW m c) (downW m c) (rowAt t r) d 3) (e2.trans ?_)
  refine congrArg (fun a : EReal => a + part (rows m c) (upW m c) (downW m c) (rowAt t r) d 2) (e1.trans ?_)
  exact congrArg (fun a : EReal => a + part (rows m c) (upW m c) (downW m c) (rowAt t r) d 1) e0

/-- The feed-forward step of every buffer row. -/
def total (c : Dev nD) : Buf (Elt Ideal) ((c : Thread nD τ).loc main_v50) :=
  fun i : S10240x1024.Idx => out (rows m c) (upW m c) (downW m c) (i 0) (i 1)

/-- Row `r` of the result's block at grid point `t`, in any array of that shape. -/
theorem read_out (A : Vec Ideal S10240x1024 .f32) (t : Fin cfg0.N) (r : Fin 1280) (d : Fin 1024) :
    (((cfg0.win 4).blk t).view.read (Elt Ideal) A : Vec Ideal S1280x1024 .f32) (ix2 r d) = A (ix2 (rowAt t r) d) := by
  rw [View.read_apply]
  refine congrArg A (funext fun a => Fin.ext ?_)
  match a with
  | ⟨0, _⟩ => show win0_4.index t 0 * 1280 + 1 * r.val = 1280 * (t.val / 4) + r.val; rw [(index4 t).1]; omega
  | ⟨1, _⟩ => show win0_4.index t 1 * 1024 + 1 * d.val = d.val; rw [(index4 t).2]; omega

/-- A block that agrees with an array entry by entry is that array's block. -/
theorem blk_eq (A : Vec Ideal S10240x1024 .f32) (y : Vec Ideal S1280x1024 .f32) (t : Fin cfg0.N)
    (h : ∀ r d, y (ix2 r d) = A (ix2 (rowAt t r) d)) :
    (cfg0.win 4).cut (grid0.coords t) y = ((cfg0.win 4).blk t).view.read (Elt Ideal) A := by
  funext j
  refine Eq.trans ?_ ((h (j 0) (j 1)).trans ((read_out A t (j 0) (j 1)).symm.trans ?_))
  · exact congrArg y (eq_ix2 (n0 := 1280) (n1 := 1024) j)
  · exact congrArg (((cfg0.win 4).blk t).view.read (Elt Ideal) A : Vec Ideal S1280x1024 .f32) (eq_ix2 (n0 := 1280) (n1 := 1024) j).symm

/-- What each point that writes its block back writes is that block of `total`. -/
theorem flushed_eq (c : Dev nD) (t : Fin cfg0.N) (hf : (cfg0.win 4).flush t = true) :
    (dats m 0 c).flushed 4 t = ((cfg0.win 4).blk t).view.read (Elt Ideal) (total m c) := by
  show (cfg0.win 4).cut (grid0.coords t) ((dats m 0 c).after 4 t) = _
  rw [after0_4]
  exact blk_eq (total m c) (outsAt0 m c t.val t.isLt) t (at_last m c t ((flush0_4 t).mp hf))

/-- So the product array ends at `total`: the points that write back cover it. -/
theorem final (c : Dev nD) : (dats m 0 c).arrAt 4 cfg0.N = total m c :=
  (dats m 0 c).arrAt_eq_of_cover 4 (total m c) (flushed_eq m c) fun i => by
    have h0 : (i 0 : Nat) < 10240 := (i 0).isLt
    have h1 : (i 1 : Nat) < 1024 := (i 1).isLt
    have hN : cfg0.N = 32 := N_0
    have ht : 4 * ((i 0 : Nat) / 1280) + 3 < cfg0.N := by omega
    refine ⟨⟨4 * ((i 0 : Nat) / 1280) + 3, ht⟩, (flush0_4 _).mpr (by show (4 * ((i 0 : Nat) / 1280) + 3) % 4 = 3; omega), ?_⟩
    have hx := index4 ⟨4 * ((i 0 : Nat) / 1280) + 3, ht⟩
    generalize htt : (⟨4 * ((i 0 : Nat) / 1280) + 3, ht⟩ : Fin cfg0.N) = t at hx ⊢
    have hv : t.val = 4 * ((i 0 : Nat) / 1280) + 3 := by rw [← htt]
    show i ∈ ((View.whole main_v50).slice (win0_4.rect t)).set
    rw [View.set_slice_whole, Rect.mem_set_unit]
    intro a
    match a with
    | ⟨0, _⟩ =>
      show win0_4.index t 0 * 1280 ≤ (i 0 : Nat) ∧ (i 0 : Nat) < win0_4.index t 0 * 1280 + 1280
      rw [hx.1]; omega
    | ⟨1, _⟩ =>
      show win0_4.index t 1 * 1024 ≤ (i 1 : Nat) ∧ (i 1 : Nat) < win0_4.index t 1 * 1024 + 1024
      rw [hx.2]; omega

end Cert.KernelIdeal.Array

end
-- ==== Proof.Equation.lean ====
/- What the reference computes in its feed-forward step. -/
module

public import proofs.«01_k».proof.Proof.Ffn
public import proofs.«01_k».proof.Proof.Gen.ReferenceIdeal.Read
public import Idealize.ShloMosaic.Lib.Pointwise
public import Idealize.ShloMosaic.Lib.IdealHost

@[expose] public section

noncomputable section

namespace Cert.ReferenceIdeal.Equation

open Cert.ReferenceIdeal Cert.ReferenceIdeal.Read Idealize.ShloMosaic Cert.Ffn

variable (x0 : (⟨S4096x1024, .f32⟩ : BufTy).Contents (Elt Ideal)) (x1 : (⟨S1024x8, .f32⟩ : BufTy).Contents (Elt Ideal))
  (x2 : (⟨S8x1024x4096, .f32⟩ : BufTy).Contents (Elt Ideal)) (x3 : (⟨S8x2048x1024, .f32⟩ : BufTy).Contents (Elt Ideal))

/-- The buffer's rows. -/
abbrev rows : Fin 10240 → Fin 1024 → EReal := fun i q => val_main_v49 (F := Ideal) x0 x1 (ix2 i q)
/-- The experts' first weights. -/
abbrev upW : Fin 8 → Fin 1024 → Fin 4096 → EReal := fun e q n => x2 (ix3 e q n)
/-- The experts' second weights. -/
abbrev downW : Fin 8 → Fin 2048 → Fin 1024 → EReal := fun e p d => x3 (ix3 e p d)

/-- Buffer row `r` of expert `e`. -/
def rowOf (e : Fin 8) (r : Fin 1280) : Fin 10240 := ⟨1280 * e.val + r.val, by omega⟩

/-- Its expert is `e`. -/
theorem expert_rowOf (e : Fin 8) (r : Fin 1280) : expert (rowOf e r) = e :=
  Fin.ext (by show (1280 * e.val + r.val) / 1280 = e.val; omega)

/-- The first product, at an index. -/
theorem up_eq (e : Fin 8) (r : Fin 1280) (n : Fin 4096) :
    val_main_v51 (F := Ideal) x0 x1 x2 (ix3 e r n) = up (rows x0 x1) (upW x2) (rowOf e r) n := by
  rw [val_main_v51_apply]
  unfold up
  rw [expert_rowOf]
  refine Finset.sum_congr rfl fun q _ => ?_
  rw [val_main_v50_apply]
  congr 2
  · funext a
    apply Fin.ext
    match a with
    | ⟨0, _⟩ => show ((e.val * 1280 + r.val) * 1024 + q.val) / 1024 = 1280 * e.val + r.val; omega
    | ⟨1, _⟩ => show ((e.val * 1280 + r.val) * 1024 + q.val) % 1024 = q.val; omega
  · funext a
    match a with
    | ⟨0, _⟩ => rfl
    | ⟨1, _⟩ => rfl
    | ⟨2, _⟩ => rfl

/-- The gate half of the first product, at an index. -/
theorem gate_eq (e : Fin 8) (r : Fin 1280) (p : Fin 2048) :
    val_main_v52 (F := Ideal) x0 x1 x2 (ix3 e r p) = up (rows x0 x1) (upW x2) (rowOf e r) (gateCol p) := by
  rw [val_main_v52_apply, ← up_eq]
  congr 1
  funext a
  match a with
  | ⟨0, _⟩ => rfl
  | ⟨1, _⟩ => rfl
  | ⟨2, _⟩ => rfl

/-- The linear half of the first product, at an index. -/
theorem lin_eq (e : Fin 8) (r : Fin 1280) (p : Fin 2048) :
    val_main_v53 (F := Ideal) x0 x1 x2 (ix3 e r p) = up (rows x0 x1) (upW x2) (rowOf e r) (linCol p) := by
  rw [val_main_v53_apply, ← up_eq]
  congr 1
  funext a
  match a with
  | ⟨0, _⟩ => rfl
  | ⟨1, _⟩ => rfl
  | ⟨2, _⟩ => rfl

/-- The host's `1 / (1 + exp (-z))` is the logistic function. -/
theorem logistic_eq (z : Ideal .f32) :
    FloatOps.hostDivf (F := Ideal) (FloatOps.ofBits .f32 0x3F800000#32)
        (FloatOps.addf (FloatOps.ofBits .f32 0x3F800000#32) (FloatOps.hostUnary .exp (FloatOps.hostNegf z)))
      = Ideal.logistic z := by
  rw [show (FloatOps.ofBits .f32 0x3F800000#32 : Ideal .f32) = 1 from Ideal.ofBits_one_f32]
  rfl

/-- The gated hidden units, at an index. -/
theorem hidden_eq (e : Fin 8) (r : Fin 1280) (p : Fin 2048) :
    val_main_v55 (F := Ideal) x0 x1 x2 (ix3 e r p) = hidden (rows x0 x1) (upW x2) (rowOf e r) p := by
  rw [val_main_v55_apply, val_main_v54_apply, val_main_call4_v5_apply, val_main_call4_v4_apply, val_main_call4_cst_0_apply,
    val_main_call4_v3_apply, val_main_call4_v2_apply, val_main_call4_cst_apply, val_main_call4_v1_apply,
    val_main_call4_v0_apply, logistic_eq, gate_eq, lin_eq]
  rfl

/-- The feed-forward step's result, at an index. -/
theorem out_eq (i : Fin 10240) (d : Fin 1024) :
    val_main_v57 (F := Ideal) x0 x1 x2 x3 (ix2 i d) = out (rows x0 x1) (upW x2) (downW x3) i d := by
  rw [val_main_v57_apply, val_main_v56_apply]
  unfold out
  have hi : rowOf (expert i) ⟨i.val % 1280, by omega⟩ = i :=
    Fin.ext (by show 1280 * (i.val / 1280) + i.val % 1280 = i.val; omega)
  refine Finset.sum_congr rfl fun p _ => ?_
  refine congrArg₂ (fun a b : EReal => a * b) ?_ ?_
  · refine Eq.trans (congrArg (val_main_v55 (F := Ideal) x0 x1 x2) (funext fun a => Fin.ext ?_))
      ((hidden_eq x0 x1 x2 (expert i) ⟨i.val % 1280, by omega⟩ p).trans (by rw [hi]))
    match a with
    | ⟨0, _⟩ => show (i.val * 1024 + d.val) / 1310720 = i.val / 1280; omega
    | ⟨1, _⟩ => show (i.val * 1024 + d.val) / 1024 % 1280 = i.val % 1280; omega
    | ⟨2, _⟩ => rfl
  · refine congrArg x3 (funext fun a => Fin.ext ?_)
    match a with
    | ⟨0, _⟩ => show (i.val * 1024 + d.val) / 1310720 = i.val / 1280; omega
    | ⟨1, _⟩ => rfl
    | ⟨2, _⟩ => show (i.val * 1024 + d.val) % 1024 = d.val; omega

end Cert.ReferenceIdeal.Equation

end
-- ==== Proof.Result.lean ====
/- What the kernel's program returns, at the extended reals: the reference's function of the same four arguments. -/
module

public import proofs.«01_k».proof.Proof.Route
public import proofs.«01_k».proof.Proof.Combine
public import proofs.«01_k».proof.Proof.Array
public import proofs.«01_k».proof.Proof.Equation
public import Idealize.ShloMosaic.Lib.Claim

@[expose] public section

noncomputable section

namespace Cert.KernelIdeal.Result

open Cert.KernelIdeal Cert.KernelIdeal.Gen Idealize.ShloMosaic Idealize.ShloMosaic.TcCoe Idealize.SL.Sem
open Cert.KernelIdeal.Route Cert.ReferenceIdeal.Read

variable (m : (ℓ : Loc nD τ sig) → Buf (Elt Ideal) ℓ) (ρ : Dev nD → PrngReg)

/-- The experts' first weights. -/
abbrev w1 (c : Dev nD) : Vec Ideal S8x1024x4096 .f32 := m ((c : Thread nD τ).loc main_arg2)
/-- The experts' second weights. -/
abbrev w2 (c : Dev nD) : Vec Ideal S8x2048x1024 .f32 := m ((c : Thread nD τ).loc main_arg3)

/-- The reference's result of the kernel's arguments. -/
def value (c : Dev nD) : Vec Ideal S4096x1024 .f32 := val_main_v77 (F := Ideal) (x m c) (wr m c) (w1 m c) (w2 m c)

/-- The feed-forward step over the reference's buffer rows is the reference's stage. -/
theorem step_eq (x0 : Vec Ideal S4096x1024 .f32) (x1 : Vec Ideal S1024x8 .f32) (x2 : Vec Ideal S8x1024x4096 .f32)
    (x3 : Vec Ideal S8x2048x1024 .f32) (i : S10240x1024.Idx) :
    Ffn.out (Cert.ReferenceIdeal.Equation.rows x0 x1) (Cert.ReferenceIdeal.Equation.upW x2)
        (Cert.ReferenceIdeal.Equation.downW x3) (i 0) (i 1)
      = val_main_v57 (F := Ideal) x0 x1 x2 x3 i :=
  (Cert.ReferenceIdeal.Equation.out_eq x0 x1 x2 x3 (i 0) (i 1)).symm.trans
    (congrArg (val_main_v57 (F := Ideal) x0 x1 x2 x3) (eq_ix2 (n0 := 10240) (n1 := 1024) i).symm)

/-- What the region's array ends holding is the reference's experts' results. -/
theorem total_eq (c : Dev nD) :
    Array.total m c = (val_main_v57 (F := Ideal) (x m c) (wr m c) (w1 m c) (w2 m c) : Vec Ideal S10240x1024 .f32) := by
  have hr : Array.rows m c = Cert.ReferenceIdeal.Equation.rows (x m c) (wr m c) := by
    unfold Array.rows
    rw [gathered]
  have hu : Array.upW m c = Cert.ReferenceIdeal.Equation.upW (w1 m c) := by
    unfold Array.upW
    rw [V_main_arg2]
  have hd : Array.downW m c = Cert.ReferenceIdeal.Equation.downW (w2 m c) := by
    unfold Array.downW
    rw [V_main_arg3]
  unfold Array.total
  rw [hr, hu, hd]
  exact funext (step_eq (x m c) (wr m c) (w1 m c) (w2 m c))

/-- The lines after the region leave the reference's result. -/
theorem tail_eq (c : Dev nD) :
    Pipeline.afterTail₀ cfgs (dats m) 0 (V0 m) [hostOps1, hostOps1_1, hostOps1_2] c main_v70 = value m c := by
  unfold Pipeline.afterTail₀ value
  refine Combine.result _ _ _ _ _ ?_ ?_ ?_ ?_ ?_
  · exact ((dats m 0 c).withArrays_arrAt sharedIn0 (V0 m c) (A_eq m c) 4).trans ((Array.final m c).trans (total_eq m c))
  · exact (Pipeline.withArrays_of_ne _ c (V0 m c) _ main_v32 (by exact (by decide : ∀ w, Pipeline.arrRef spec0 w ≠ main_v32))).trans (slot m c)
  · exact (Pipeline.withArrays_of_ne _ c (V0 m c) _ main_v25 (by exact (by decide : ∀ w, Pipeline.arrRef spec0 w ≠ main_v25))).trans (fits m c)
  · exact (Pipeline.withArrays_of_ne _ c (V0 m c) _ main_v17 (by exact (by decide : ∀ w, Pipeline.arrRef spec0 w ≠ main_v17))).trans (weight m c)
  · exact (Pipeline.withArrays_of_ne _ c (V0 m c) _ main_v28 (by exact (by decide : ∀ w, Pipeline.arrRef spec0 w ≠ main_v28))).trans (token m c)

/-- Every run of the kernel's program ends with `value` in its result and its arguments unchanged. -/
theorem run : θ_run defs (onTc (τ := τ) (main (F := Ideal))) ⟨m, fun _ => 0, ρ⟩ fun r => ∀ c : Dev nD,
      r.2.mem ((c.tc : Thread nD τ).loc main_v70) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).2 main_v70 (Pipeline.mem_restRefs_of main_v70 (by decide) (by decide))).trans (tail_eq m c), h.2 c⟩)
    (θ_run_and (run_main m ρ) (unchanged m ρ))

end Cert.KernelIdeal.Result

end
-- ==== Proof.lean ====
/- The five claims, assembled. The frames of the two readings of the kernel's program come from its launch; the
   reference's from its run. The value claim is `Result.run` against the reference's run: both end at the reference's
   function of the four arguments. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Result
public import Idealize.ShloMosaic.Lib.Quiescent

@[expose] public section

noncomputable section

namespace Cert.Proof

open Idealize.ShloMosaic Idealize.SL.Sem

/-- The kernel runs and leaves its arguments and the machine as they were. -/
theorem frame_kernel : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are the same function of arguments that agree. -/
theorem equal : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2]
  rfl

/-- The five claims. -/
theorem claim : Cert.Claim :=
  ⟨Cert.Kernel.Gen.facts, Cert.KernelIdeal.Gen.facts, Cert.ReferenceIdeal.Gen.facts,
    frame_kernel, frame_ideal, frame_reference, trivial, equal⟩

end Cert.Proof

end
